-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x128x512 : Shape := ⟨3, ![16, 128, 512]⟩
abbrev S16x512 : Shape := ⟨2, ![16, 512]⟩
abbrev S_ : Shape := ⟨0, ![]⟩

class Facts : Prop where
  bcast_S_S16x128x512 : S_.BroadcastsInDim S16x128x512 (![] : Fin 0 → Fin S16x128x512.rank)
  reducesTo_S16x128x512_S_d0_1_2 : S16x128x512.ReducesTo [0, 1, 2] S_
  h_S_ : 0 < S_.numel

variable [Facts]

def fn {F : FTy → Type} [FloatOps F] (main_arg0 : FVec F S16x128x512 .f32) (main_arg1 : FVec F S16x128x512 .f32) (main_arg2 : IVec S16x512 1) : IVec S_ 1 :=
  let main_v0 : FVec F S16x128x512 .f32 := Host.absf main_arg0
  let main_cst : FVec F S_ .f32 := constant S_ .f32 0x41980000#32
  let main_v1 : FVec F S16x128x512 .f32 := broadcastInDim S16x128x512 ![] bcast_S_S16x128x512 main_cst
  let main_v2 : IVec S16x128x512 1 := cmpf .ole main_v0 main_v1
  let main_c : IVec S_ 1 := constantI S_ 1 1#1
  let main_v3 : IVec S_ 1 := (fun x v => Host.reduce IntOp.andi x v reducesTo_S16x128x512_S_d0_1_2 h_S_) main_v2 main_c
  let main_v4 : FVec F S16x128x512 .f32 := Host.absf main_arg1
  let main_cst_0 : FVec F S_ .f32 := constant S_ .f32 0x41980000#32
  let main_v5 : FVec F S16x128x512 .f32 := broadcastInDim S16x128x512 ![] bcast_S_S16x128x512 main_cst_0
  let main_v6 : IVec S16x128x512 1 := cmpf .ole main_v4 main_v5
  let main_c_1 : IVec S_ 1 := constantI S_ 1 1#1
  let main_v7 : IVec S_ 1 := (fun x v => Host.reduce IntOp.andi x v reducesTo_S16x128x512_S_d0_1_2 h_S_) main_v6 main_c_1
  let main_v8 : IVec S_ 1 := andi main_v3 main_v7
  main_v8
-- ==== Kernel.lean ====
abbrev S16x128x512 : Shape := ⟨3, ![16, 128, 512]⟩
abbrev S16x512 : Shape := ⟨2, ![16, 512]⟩
abbrev S1x1 : Shape := ⟨2, ![1, 1]⟩
abbrev S8x128x512 : Shape := ⟨3, ![8, 128, 512]⟩
abbrev S144x512 : Shape := ⟨2, ![144, 512]⟩
abbrev S1x128x512 : Shape := ⟨3, ![1, 128, 512]⟩
abbrev S128x512 : Shape := ⟨2, ![128, 512]⟩
abbrev S1x512 : Shape := ⟨2, ![1, 512]⟩
abbrev S512 : Shape := ⟨1, ![512]⟩
abbrev S14x512 : Shape := ⟨2, ![14, 512]⟩
abbrev S512x512 : Shape := ⟨2, ![512, 512]⟩
abbrev S512x1 : Shape := ⟨2, ![512, 1]⟩
abbrev S1x1x512 : Shape := ⟨3, ![1, 1, 512]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S16x128x512, .f32⟩
  | .hbm, ⟨1, _⟩ => ⟨S16x128x512, .f32⟩
  | .hbm, ⟨2, _⟩ => ⟨S16x512, .i1⟩
  | .hbm, ⟨3, _⟩ => ⟨S16x512, .i32⟩
  | .hbm, ⟨4, _⟩ => ⟨S1x1, .f32⟩
  | .hbm, ⟨5, _⟩ => ⟨S_, .f32⟩
  | .local _ .vmem, ⟨0, _⟩ => ⟨S8x128x512, .f32⟩
  | .local _ .vmem, ⟨1, _⟩ => ⟨S8x128x512, .f32⟩
  | .local _ .vmem, ⟨2, _⟩ => ⟨S8x128x512, .f32⟩
  | .local _ .vmem, ⟨3, _⟩ => ⟨S8x128x512, .f32⟩
  | .local _ .vmem, ⟨4, _⟩ => ⟨S16x512, .i32⟩
  | .local _ .vmem, ⟨5, _⟩ => ⟨S1x1, .f32⟩
  | .local _ .vmem, ⟨6, _⟩ => ⟨S144x512, .bf16⟩
  | .local _ .vmem, ⟨7, _⟩ => ⟨S144x512, .bf16⟩
  | _, _ => ⟨S16x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v6 : Index := Scalar.indexCast v1
  let c0_5 : Index := 0#32
  ![v6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x128x512 : Shape := ⟨3, ![16, 128, 512]⟩
abbrev S16x512 : Shape := ⟨2, ![16, 512]⟩
abbrev S16x128x512x1 : Shape := ⟨4, ![16, 128, 512, 1]⟩
abbrev S16x128x1x512 : Shape := ⟨4, ![16, 128, 1, 512]⟩
abbrev S16x128x512x512 : Shape := ⟨4, ![16, 128, 512, 512]⟩
abbrev S_ : Shape := ⟨0, ![]⟩
abbrev S16x512x512 : Shape := ⟨3, ![16, 512, 512]⟩
abbrev S16x512x1 : Shape := ⟨3, ![16, 512, 1]⟩
abbrev S16x1x512 : Shape := ⟨3, ![16, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S16x128x512, .f32⟩
  | .hbm, ⟨2, _⟩ => ⟨S16x512, .i1⟩
  | .hbm, ⟨3, _⟩ => ⟨S16x128x512x1, .f32⟩
  | .hbm, ⟨4, _⟩ => ⟨S16x128x1x512, .f32⟩
  | .hbm, ⟨5, _⟩ => ⟨S16x128x512x512, .f32⟩
  | .hbm, ⟨6, _⟩ => ⟨S16x128x512x512, .f32⟩
  | .hbm, ⟨7, _⟩ => ⟨S16x128x512x512, .f32⟩
  | .hbm, ⟨8, _⟩ => ⟨S16x128x512x512, .f32⟩
  | .hbm, ⟨9, _⟩ => ⟨S_, .f32⟩
  | .hbm, ⟨10, _⟩ => ⟨S16x512x512, .f32⟩
  | .hbm, ⟨11, _⟩ => ⟨S16x512x1, .i1⟩
  | .hbm, ⟨12, _⟩ => ⟨S16x1x512, .i1⟩
  | .hbm, ⟨13, _⟩ => ⟨S16x512x512, .i1⟩
  | .hbm, ⟨14, _⟩ => ⟨S16x512x512, .i1⟩
  | .hbm, ⟨15, _⟩ => ⟨S16x512x512, .i1⟩
  | .hbm, ⟨16, _⟩ => ⟨S_, .f32⟩
  | .hbm, ⟨17, _⟩ => ⟨S16x512x512, .f32⟩
  | .hbm, ⟨18, _⟩ => ⟨S16x512x512, .f32⟩
  | .hbm, ⟨19, _⟩ => ⟨S_, .f32⟩
  | .hbm, ⟨20, _⟩ => ⟨S16x512, .f32⟩
  | .hbm, ⟨21, _⟩ => ⟨S_, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x512, .f32⟩
  | .hbm, ⟨29, _⟩ => ⟨S_, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_call2_v0 : Ref sig .tc := ⟨.hbm, 30, rfl⟩
abbrev main_call2_v1 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Proof.Constants.lean ====
/- The bit patterns the two programs carry, as extended reals. -/
module

public import Idealize.ShloMosaic.Lib.IdealHost

@[expose] public section

noncomputable section

namespace Cert.Constants

open Idealize.ShloMosaic

/-- The magnitude the mask is written with: the single-precision number nearest 10^30. -/
def huge : ℝ := 13234890 * 2 ^ 76

theorem huge_ge : (200000 : ℝ) ≤ huge := by unfold huge; norm_num

theorem bits_neg_inf : Ideal.ofBits .bf16 0xFF80#16 = ⊥ := by simp [Ideal.ofBits, Ideal.ieee]
theorem bits_inf : Ideal.ofBits .f32 0x7F800000#32 = ⊤ := by simp [Ideal.ofBits, Ideal.ieee]
theorem bits_half : Ideal.ofBits .f32 0x3F000000#32 = ((1 / 2 : ℝ) : EReal) := by
  simp [Ideal.ofBits, Ideal.ieee, -EReal.coe_mul, -EReal.coe_neg]; norm_num
theorem bits_neg_eighth : Ideal.ofBits .f32 0xBE000000#32 = ((-1 / 8 : ℝ) : EReal) := by
  simp [Ideal.ofBits, Ideal.ieee, -EReal.coe_mul, -EReal.coe_neg]; norm_num
theorem bits_16 : Ideal.ofBits .f32 0x41800000#32 = ((16 : ℝ) : EReal) := by
  simp [Ideal.ofBits, Ideal.ieee, -EReal.coe_mul, -EReal.coe_neg]; norm_num
theorem bits_19 : Ideal.ofBits .f32 0x41980000#32 = ((19 : ℝ) : EReal) := by
  simp [Ideal.ofBits, Ideal.ieee, -EReal.coe_mul, -EReal.coe_neg]; norm_num
theorem bits_1e5 : Ideal.ofBits .f32 0x47C35000#32 = ((100000 : ℝ) : EReal) := by
  simp [Ideal.ofBits, Ideal.ieee, -EReal.coe_mul, -EReal.coe_neg]; norm_num
theorem bits_neg_1e5 : Ideal.ofBits .f32 0xC7C35000#32 = ((-100000 : ℝ) : EReal) := by
  simp [Ideal.ofBits, Ideal.ieee, -EReal.coe_mul, -EReal.coe_neg]; norm_num
theorem bits_1e30 : Ideal.ofBits .f32 0x7149F2CA#32 = (huge : EReal) := by
  simp [Ideal.ofBits, Ideal.ieee, huge, -EReal.coe_mul, -EReal.coe_neg]
theorem bits_neg_1e30 : Ideal.ofBits .f32 0xF149F2CA#32 = ((-huge : ℝ) : EReal) := by
  simp [Ideal.ofBits, Ideal.ieee, huge, -EReal.coe_mul, -EReal.coe_neg]

end Cert.Constants
-- ==== Proof.Range.lean ====
/- What the precondition says: every coordinate is a real number between -19 and 19. -/
module

public import proofs.«01_k».proof.Pre_in_range
public import proofs.«01_k».proof.Proof.Constants
public import Idealize.ShloMosaic.Lib.Pointwise
public import Idealize.ShloMosaic.Lib.ReduceAll
public import Idealize.ShloMosaic.Lib.Affine

@[expose] public section

set_option maxRecDepth 16384

noncomputable section

namespace Cert.Pre_in_range

open Idealize.ShloMosaic Cert.Constants

/-- The side conditions of the precondition's own operations. -/
instance facts : Cert.Pre_in_range.Facts where
  bcast_S_S16x128x512 := by decide
  reducesTo_S16x128x512_S_d0_1_2 := by decide
  h_S_ := by decide

/-- A number whose absolute value is at most 19 is a real one, between -19 and 19. -/
theorem real_of_le (a : EReal) (h : max a (-a) ≤ ((19 : ℝ) : EReal)) : ∃ r : ℝ, a = (r : EReal) ∧ |r| ≤ 19 := by
  have h1 := (le_max_left a (-a)).trans h
  have h2 := (le_max_right a (-a)).trans h
  induction a using EReal.rec with
  | bot => exact absurd h2 (by simp)
  | top => exact absurd h1 (by simp)
  | coe r =>
    refine ⟨r, rfl, abs_le.mpr ⟨?_, EReal.coe_le_coe_iff.mp h1⟩⟩
    rw [← EReal.coe_neg] at h2
    linarith [EReal.coe_le_coe_iff.mp h2]

/-- One element of the comparison, read. -/
theorem le_of_bit (X : FVec Ideal S16x128x512 .f32) (i : S16x128x512.Idx)
    (h : cmpf .ole (Host.absf X) (broadcastInDim S16x128x512 ![] Facts.bcast_S_S16x128x512 (constant S_ .f32 0x41980000#32)) i = 1#1) :
    max (X i) (-(X i)) ≤ ((19 : ℝ) : EReal) := by
  rw [← bits_19]
  have h' : Ideal.cmp .ole (max (X i) (-(X i))) (Ideal.ofBits .f32 0x41980000#32) = 1#1 := h
  by_contra hn
  simp [Ideal.cmp, hn] at h'

/-- Under the precondition every coordinate is real and between -19 and 19. -/
theorem reals (X Y : FVec Ideal S16x128x512 .f32) (M : IVec S16x512 1) (h : fn (F := Ideal) X Y M = fun _ => 1#1) :
    (∀ i, ∃ r : ℝ, X i = (r : EReal) ∧ |r| ≤ 19) ∧ ∀ i, ∃ r : ℝ, Y i = (r : EReal) ∧ |r| ≤ 19 := by
  have h0 := congrFun h (fun a => a.elim0)
  obtain ⟨hX, hY⟩ := IntOp.andi_eq_one.mp h0
  haveI : Subsingleton S_.Idx := ⟨fun a b => funext fun k => k.elim0⟩
  exact ⟨fun i => real_of_le _ (le_of_bit X i (Host.reduce_andi_all _ _ _ _ _ hX i)),
    fun i => real_of_le _ (le_of_bit Y i (Host.reduce_andi_all _ _ _ _ _ hY i))⟩

end Cert.Pre_in_range
-- ==== Proof.Stage.lean ====
/- The staging scratch read back: a batch writes 128 rows of coordinates and then a 16-row tail into a
   144-row scratch, and loads all 144 rows. `stage A B` is that array, and `readCov_stage` says a load
   of the whole scratch after the two stores reads it, whatever was stored before. -/
module

public import proofs.«01_k».proof.Proof.Gen.KernelIdeal
public import Idealize.ShloMosaic.Lib.Pipeline.ValueKit
public import Idealize.ShloMosaic.Lib.Pointwise
public import Idealize.ShloMosaic.Lib.Writes

@[expose] public section

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

/-- Rows 0 to 127 are those of `A`, rows 128 to 143 those of `B`. -/
def stage (A : Vec F S128x512 .bf16) (B : Vec F S16x512 .bf16) : Vec F S144x512 .bf16 := fun i =>
  if h : (i 0).val < 128 then A (ix2 ⟨(i 0).val, h⟩ (i 1))
  else B (ix2 ⟨(i 0).val - 128, by have h1 : (i 0).val < 144 := (i 0).isLt; omega⟩ (i 1))

/-- The whole scratch, loaded after its tail and before that its first 128 rows were stored, is `stage`. -/
theorem readCov_stage {κ : Kind} {sp : Space} (v : View sig κ sp S144x512 .bf16)
    (A : Vec F S128x512 .bf16) (B : Vec F S16x512 .bf16) (L : List (View.Piece (Elt F) S144x512 .bf16))
    (hB : ∀ a, (![128, 0] : Fin 2 → ℕ) a + S16x512.size a ≤ S144x512.size a)
    (hA : ∀ a, (![0, 0] : Fin 2 → ℕ) a + S128x512.size a ≤ S144x512.size a)
    (hW : ∀ a, (![0, 0] : Fin 2 → ℕ) a + S144x512.size a ≤ S144x512.size a) :
    v.readCov (⟨Rect.unit ![128, 0] S16x512.size hB, B⟩ :: ⟨Rect.unit ![0, 0] S128x512.size hA, A⟩ :: L)
      (Rect.unit ![0, 0] S144x512.size hW).toLoadRect = stage A B := by
  funext j
  unfold View.readCov
  rw [View.readAt_apply]
  have hj : (Rect.unit (s := S144x512) ![0, 0] S144x512.size hW).toLoadRect.idx j = j := by
    funext a
    apply Fin.ext
    fin_cases a <;> simp [Rect.toLoadRect, LoadRect.idx, Rect.unit]
  refine (congrArg _ hj).trans ?_
  have h0 : (j 0).val < 144 := (j 0).isLt
  by_cases h : (j 0).val < 128
  · have hx : ∀ x : S128x512.Idx, (∀ a, (j a).val = (Rect.unit (s := S144x512) ![0, 0] S128x512.size hA).off a
        + (Rect.unit (s := S144x512) ![0, 0] S128x512.size hA).stride a * (x a).val) →
        v.read (Elt F) (v.writes (Elt F) v.junk (⟨Rect.unit ![128, 0] S16x512.size hB, B⟩ :: ⟨Rect.unit ![0, 0] S128x512.size hA, A⟩ :: L)) j = A x := fun x hx => by
      rw [View.read_writes_cons_miss_of_axis v _ _ _ j 0 128 16 rfl rfl rfl (.inl h)]
      exact View.read_writes_cons_hit_of_coords v _ (Rect.unit ![0, 0] S128x512.size hA) A L x j hx
    refine (hx (ix2 ⟨(j 0).val, h⟩ (j 1)) fun a => ?_).trans ?_
    · fin_cases a <;> simp [Rect.unit, ix2]
    · unfold stage; rw [dif_pos h]
  · have hx : ∀ x : S16x512.Idx, (∀ a, (j a).val = (Rect.unit (s := S144x512) ![128, 0] S16x512.size hB).off a
        + (Rect.unit (s := S144x512) ![128, 0] S16x512.size hB).stride a * (x a).val) →
        v.read (Elt F) (v.writes (Elt F) v.junk (⟨Rect.unit ![128, 0] S16x512.size hB, B⟩ :: ⟨Rect.unit ![0, 0] S128x512.size hA, A⟩ :: L)) j = B x := fun x hx =>
      View.read_writes_cons_hit_of_coords v _ (Rect.unit ![128, 0] S16x512.size hB) B _ x j hx
    refine (hx (ix2 ⟨(j 0).val - 128, by omega⟩ (j 1)) fun a => ?_).trans ?_
    · fin_cases a
      · have e := Nat.add_sub_of_le (not_lt.mp h)
        simpa [Rect.unit, ix2] using e.symm
      · simp [Rect.unit, ix2]
    · unfold stage; rw [dif_neg h]

/-- `readCov_stage` at the first scratch's own view, with the rectangles' extents spelt as numbers. -/
theorem readCov_stage0 (A : Vec F S128x512 .bf16) (B : Vec F S16x512 .bf16) (L : List (View.Piece (Elt F) S144x512 .bf16)) :
    View.readCov (κ := (Proc.tc : Proc τ).kind) (s := S144x512) (e := .bf16) (View.whole cc0_scratch0)
      (⟨Rect.unit ![128, 0] ![16, 512] inb_S144x512_S16x512_128_0, B⟩
        :: ⟨Rect.unit ![0, 0] ![128, 512] inb_S144x512_S128x512_0_0, A⟩ :: L)
      (Rect.unit ![0, 0] ![144, 512] inb_S144x512_S144x512_0_0).toLoadRect = stage A B :=
  readCov_stage _ A B L _ _ _

/-- The same at the other scratch. -/
theorem readCov_stage1 (A : Vec F S128x512 .bf16) (B : Vec F S16x512 .bf16) (L : List (View.Piece (Elt F) S144x512 .bf16)) :
    View.readCov (κ := (Proc.tc : Proc τ).kind) (s := S144x512) (e := .bf16) (View.whole cc0_scratch1)
      (⟨Rect.unit ![128, 0] ![16, 512] inb_S144x512_S16x512_128_0, B⟩
        :: ⟨Rect.unit ![0, 0] ![128, 512] inb_S144x512_S128x512_0_0, A⟩ :: L)
      (Rect.unit ![0, 0] ![144, 512] inb_S144x512_S144x512_0_0).toLoadRect = stage A B :=
  readCov_stage _ A B L _ _ _

end Cert.KernelIdeal.Val
-- ==== Proof.Nearest.lean ====
/- The arithmetic of one batch of point clouds, over the reals read as extended reals.

   `D i j` is the squared distance from point `i` to point `j`, `v i` says that point `i` counts. The
   kernel takes the greatest of the half-negated, penalised distances of a row or column; the
   reference takes the least distance to a point that counts. `nearest` says both find the same number. -/
module

public import Mathlib.Data.EReal.Operations
public import Mathlib.Data.Finset.Fold
public import Mathlib.Data.Finset.Max
public import Mathlib.Algebra.BigOperators.Ring.Finset
public import Mathlib.Algebra.BigOperators.Field
public import Mathlib.Tactic.Linarith
public import Mathlib.Tactic.Ring
public import Mathlib.Tactic.NormNum

@[expose] public section

noncomputable section

namespace Cert.Nearest

variable {ι κ : Type} [Fintype ι] [Fintype κ]

/-- A sum of reals read as extended reals is their real sum. -/
theorem coe_sum (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of a family that attains an upper bound is that bound. -/
theorem fold_max_eq {f : ι → EReal} {a : EReal} (h : ∀ i, f i ≤ a) (i : ι) (hi : f i = a) :
    Finset.fold max ⊥ f Finset.univ = a :=
  le_antisymm ((Finset.fold_max_le _).mpr ⟨bot_le, fun i _ => h i⟩)
    ((Finset.le_fold_max _).mpr (.inr ⟨i, Finset.mem_univ i, hi.ge⟩))

/-- The least of a family that attains a lower bound is that bound. -/
theorem fold_min_eq {f : ι → EReal} {a : EReal} (h : ∀ i, a ≤ f i) (i : ι) (hi : f i = a) :
    Finset.fold min ⊤ f Finset.univ = a :=
  le_antisymm ((Finset.fold_min_le _).mpr (.inr ⟨i, Finset.mem_univ i, hi.le⟩))
    ((Finset.le_fold_min _).mpr ⟨le_top, fun i _ => h i⟩)

/-- The greatest of a nonempty family of reals is one of them. -/
theorem fold_max_mem (f : ι → ℝ) (i₀ : ι) :
    ∃ i, Finset.fold max ⊥ (fun i => ((f i : ℝ) : EReal)) Finset.univ = (f i : EReal) := by
  obtain ⟨i, -, hi⟩ := Finset.exists_max_image Finset.univ f ⟨i₀, Finset.mem_univ i₀⟩
  exact ⟨i, fold_max_eq (fun k => EReal.coe_le_coe_iff.mpr (hi k (Finset.mem_univ k))) i rfl⟩

/-- The penalty on a point: none when it counts, `L` when it does not. -/
def bias (L : ℝ) (p : Prop) [Decidable p] : ℝ := if p then 0 else L

/-- One row or column. `d i` are the squared distances from the point at hand, itself number `j`, to
    every point, each between 0 and `2 * Q`. The greatest of `bias i + bias j - d i / 2`, multiplied by
    whether `j` counts, is minus half a number `e`; cut off below at `-Q` and shifted by `Q` it is
    `Q - e / 2` when `j` counts and nothing otherwise; and `e` is the least distance to a point that
    counts, or 0 when `j` does not count. -/
theorem nearest {L U Q : ℝ} (hL : L ≤ -Q) (hU : 2 * Q ≤ U) (hQ : 0 ≤ Q)
    (v : ι → Prop) [DecidablePred v]
    (d : ι → ℝ) (h0 : ∀ i, 0 ≤ d i) (hd : ∀ i, d i ≤ 2 * Q) (j : ι) :
    ∃ e : ℝ,
      Finset.fold max ⊥ (fun i => ((bias L (v i) + bias L (v j) - d i / 2 : ℝ) : EReal)) Finset.univ
          * ((if v j then 1 else 0 : ℝ) : EReal) = ((-e / 2 : ℝ) : EReal)
      ∧ max (Finset.fold max ⊥ (fun i => ((bias L (v i) + bias L (v j) - d i / 2 : ℝ) : EReal)) Finset.univ)
          ((-Q : ℝ) : EReal) + ((Q : ℝ) : EReal) = ((-e / 2 + Q * (if v j then 1 else 0) : ℝ) : EReal)
      ∧ (if v j then Finset.fold min ⊤ (fun i => ((if v i ∧ v j then d i else U : ℝ) : EReal)) Finset.univ else 0)
          = (e : EReal) := by
  classical
  by_cases hj : v j
  · -- the nearest point that counts
    obtain ⟨i, hi, hmin⟩ := Finset.exists_min_image (Finset.univ.filter v) d ⟨j, by simp [hj]⟩
    replace hi : v i := by simpa using hi
    replace hmin : ∀ k, v k → d i ≤ d k := fun k hk => hmin k (by simp [hk])
    have hmax : Finset.fold max ⊥ (fun i => ((bias L (v i) + bias L (v j) - d i / 2 : ℝ) : EReal)) Finset.univ
        = ((-d i / 2 : ℝ) : EReal) := by
      refine fold_max_eq (fun k => EReal.coe_le_coe_iff.mpr ?_) i ?_
      · by_cases hk : v k
        · simp only [bias, if_pos hk, if_pos hj]; have := hmin k hk; linarith
        · simp only [bias, if_neg hk, if_pos hj]; have := h0 k; have := hd i; linarith
      · simp only [bias, if_pos hi, if_pos hj]; congr 1; ring
    refine ⟨d i, ?_, ?_, ?_⟩
    · rw [hmax, if_pos hj, EReal.coe_one, mul_one]
    · rw [hmax, if_pos hj, max_eq_left (EReal.coe_le_coe_iff.mpr (by have := hd i; linarith)), ← EReal.coe_add, mul_one]
    · rw [if_pos hj]
      refine fold_min_eq (fun k => EReal.coe_le_coe_iff.mpr ?_) i (by rw [if_pos ⟨hi, hj⟩])
      by_cases hk : v k
      · rw [if_pos ⟨hk, hj⟩]; exact hmin k hk
      · rw [if_neg fun h => hk h.1]; exact (hd i).trans hU
  · obtain ⟨i, hmax⟩ := fold_max_mem (fun i => bias L (v i) + bias L (v j) - d i / 2) j
    have hb : bias L (v i) ≤ 0 := by unfold bias; split <;> linarith
    refine ⟨0, ?_, ?_, ?_⟩
    · rw [hmax, if_neg hj]; simp
    · rw [hmax, if_neg hj, max_eq_right (EReal.coe_le_coe_iff.mpr ?_), ← EReal.coe_add]
      · congr 1; ring
      · have h1 : bias L (v j) = L := if_neg hj
        have := h0 i; linarith
    · rw [if_neg hj, EReal.coe_zero]

/-- A whole batch: rows and columns together. `D i j` lies between 0 and `2 * Q`. The kernel's figure
    for the batch is minus half the sum of the reference's two. -/
theorem batch {L U Q : ℝ} (hL : L ≤ -Q) (hU : 2 * Q ≤ U) (hQ : 0 ≤ Q)
    (v : ι → Prop) [DecidablePred v]
    (D : ι → ι → ℝ) (h0 : ∀ i j, 0 ≤ D i j) (hd : ∀ i j, D i j ≤ 2 * Q) :
    ∃ e₁ e₂ : ℝ,
      (∑ j, Finset.fold max ⊥ (fun i => ((bias L (v i) + bias L (v j) - D i j / 2 : ℝ) : EReal)) Finset.univ
            * ((if v j then 1 else 0 : ℝ) : EReal))
        + ((∑ i, (max (Finset.fold max ⊥ (fun j => ((bias L (v i) + bias L (v j) - D i j / 2 : ℝ) : EReal)) Finset.univ)
              ((-Q : ℝ) : EReal) + ((Q : ℝ) : EReal)))
          - ((Q : ℝ) : EReal) * ∑ i, ((if v i then 1 else 0 : ℝ) : EReal)) = ((-(e₁ + e₂) / 2 : ℝ) : EReal)
      ∧ (∑ j, if v j then Finset.fold min ⊤ (fun i => ((if v i ∧ v j then D i j else U : ℝ) : EReal)) Finset.univ else 0)
          = (e₁ : EReal)
      ∧ (∑ i, if v i then Finset.fold min ⊤ (fun j => ((if v i ∧ v j then D i j else U : ℝ) : EReal)) Finset.univ else 0)
          = (e₂ : EReal) := by
  choose c hc1 hc2 hc3 using fun j => nearest hL hU hQ v (fun i => D i j) (fun i => h0 i j) (fun i => hd i j) j
  choose r hr1 hr2 hr3 using fun i => nearest hL hU hQ v (fun j => D i j) (fun j => h0 i j) (fun j => hd i j) i
  refine ⟨∑ j, c j, ∑ i, r i, ?_, ?_, ?_⟩
  · have hr2' : ∀ i, max (Finset.fold max ⊥ (fun j => ((bias L (v i) + bias L (v j) - D i j / 2 : ℝ) : EReal)) Finset.univ)
        ((-Q : ℝ) : EReal) + ((Q : ℝ) : EReal) = ((-r i / 2 + Q * (if v i then 1 else 0) : ℝ) : EReal) := fun i => by
      rw [← hr2 i]; congr 4; funext j; congr 2; ring
    simp only [hc1, hr2', coe_sum]
    rw [← EReal.coe_mul, ← EReal.coe_sub, ← EReal.coe_add, Finset.sum_add_distrib, ← Finset.mul_sum]
    simp only [neg_div, Finset.sum_neg_distrib, ← Finset.sum_div]
    congr 1; ring
  · rw [← coe_sum]; exact Finset.sum_congr rfl fun j _ => hc3 j
  · rw [← coe_sum]
    refine Finset.sum_congr rfl fun i _ => ?_
    rw [← hr3 i]; simp only [and_comm]

end Cert.Nearest
-- ==== Proof.Score.lean ====
/- One batch of the kernel, read as a number.

   The kernel stages `x`, its penalised half square and a row of ones in one scratch, `y` with a row of
   ones and its penalised half square in another, and multiplies the two: the product at `(i, j)` is the
   half-negated squared distance from point `i` to point `j` plus both penalties (`score_eq`). `batch`
   is the figure the kernel adds to its accumulator for one batch; `batch_eq` gives it as the sums
   `Nearest.batch` speaks of. -/
module

public import proofs.«01_k».proof.Proof.Stage
public import proofs.«01_k».proof.Proof.Nearest
public import proofs.«01_k».proof.Proof.Constants
public import proofs.«01_k».proof.Proof.Gen.KernelIdeal.Skeleton

@[expose] public section

set_option maxRecDepth 16384

noncomputable section

namespace Cert.KernelIdeal.Val

open Idealize.ShloMosaic Idealize.ShloMosaic.TcCoe Idealize.SL.Sem
open Cert.KernelIdeal Cert.KernelIdeal.Gen Cert.Nearest Cert.Constants

section generic
variable {F : FTy → Type} [FloatOps F]

/-- The staged rows of `x`: its coordinates, then the tail (penalised half square, ones, zeros). -/
def stageX (X : Vec F S1x128x512 .f32) (M : Vec F S1x512 .i32) : Vec F S144x512 .bf16 :=
  stage (k0_pay9 X) (k0_pay11 (k0_pay10 X M))

/-- The staged rows of `y`: its coordinates, then the tail (ones, penalised half square, zeros). -/
def stageY (Y : Vec F S1x128x512 .f32) (M : Vec F S1x512 .i32) : Vec F S144x512 .bf16 :=
  stage (k0_pay12 (k0_pay3 Y)) (k0_pay13 (k0_pay7 Y M) k0_pay8)

/-- What one batch adds to the accumulator, from its block of `x`, of `y` and its row of the mask. -/
def batch (X Y : Vec F S1x128x512 .f32) (M : Vec F S1x512 .i32) : F .f32 :=
  Scalar.addf (k0_pay15 (k0_pay5 M) (stageX X M) (stageY Y M))
    (Scalar.subf (k0_pay16 (stageX X M) (stageY Y M))
      (Scalar.mulf (Scalar.ofBits .f32 0x47C35000#32)
        (extractAt ![0, 0, 0] (shapeCast S1x1x1 (k0_pay17 (k0_pay5 M)) shapeCasts_S1_S1x1x1) inpos_S1x1x1_p0_0_0)))

/-- A staged row below 128 is a coordinate row. -/
theorem stage_lo (A : Vec F S128x512 .bf16) (B : Vec F S16x512 .bf16) (k : Fin 128) (i : Fin 512) :
    stage A B (ix2 (Fin.castAdd 16 k) i) = A (ix2 k i) := by
  unfold stage; exact dif_pos k.isLt

/-- A staged row from 128 on is a tail row. -/
theorem stage_hi (A : Vec F S128x512 .bf16) (B : Vec F S16x512 .bf16) (k : Fin 16) (i : Fin 512) :
    stage A B (ix2 (Fin.natAdd 128 k) i) = B (ix2 k i) := by
  have hk : ¬ ((ix2 (Fin.natAdd 128 k) i : S144x512.Idx) 0).val < 128 := Nat.not_lt.mpr (Nat.le_add_right 128 k.val)
  refine (dif_neg hk).trans (congrArg B ?_)
  exact congrArg (fun r => ix2 r i) (Fin.ext (Nat.add_sub_cancel_left 128 k.val))

end generic

/-- A mask word counts when it is not zero. -/
def counts (M : Vec Ideal S1x512 .i32) (i : Fin 512) : Prop := M (ix2 0 i) ≠ 0#32

instance (M : Vec Ideal S1x512 .i32) : DecidablePred (counts M) := fun i => by unfold counts; infer_instance

/-- A choice on a mask word is a choice on whether its point counts. -/
theorem select_counts {α : Type} (M : Vec Ideal S1x512 .i32) (i : Fin 512) (a b : α) :
    Scalar.select (IntOp.cmpi .ne (M (ix2 0 i)) 0#32) a b = if counts M i then a else b := by
  unfold Scalar.select counts IntOp.cmpi
  by_cases h : M (ix2 0 i) = 0#32
  · simp [h]
  · have hb : (M (ix2 0 i) != 0#32) = true := bne_iff_ne.mpr h
    simp [h, hb]

/-- The coordinate rows staged for `x` are the block of `x`. -/
theorem x_coord (X : Vec Ideal S1x128x512 .f32) (k : Fin 128) (i : Fin 512) : k0_pay9 X (ix2 k i) = X (ix3 0 k i) := by
  pointwise [k0_pay9, k0_pay2]

/-- The coordinate rows staged for `y` are the block of `y`. -/
theorem y_coord (Y : Vec Ideal S1x128x512 .f32) (k : Fin 128) (i : Fin 512) :
    k0_pay12 (k0_pay3 Y) (ix2 k i) = Y (ix3 0 k i) := by
  pointwise [k0_pay12, k0_pay3]

/-- A point's penalty less half its squared length. -/
def half (X : Vec Ideal S1x128x512 .f32) (M : Vec Ideal S1x512 .i32) (i : Fin 512) : EReal :=
  Scalar.select (IntOp.cmpi .ne (M (ix2 0 i)) 0#32) 0 (Ideal.ofBits FTy.f32 0xF149F2CA#32)
    - Ideal.ofBits FTy.f32 0x3F000000#32 * ∑ c, X (ix3 0 c i) * X (ix3 0 c i)

/-- The tail staged for `x`: the penalised half square, a row of ones, zeros. -/
theorem x_tail (X : Vec Ideal S1x128x512 .f32) (M : Vec Ideal S1x512 .i32) (k : Fin 16) (i : Fin 512) :
    k0_pay11 (k0_pay10 X M) (ix2 k i) = if k.val < 1 then half X M i else if k.val - 1 < 1 then 1 else 0 := by
  unfold half
  pointwise [k0_pay11, k0_pay10, k0_pay2, k0_pay8, k0_pay6, k0_pay4]
  split
  · rename_i h
    have : (⟨k.val, h⟩ : Fin 1) = 0 := Subsingleton.elim _ _
    simp only [this]
  · rfl

/-- The tail staged for `y`: a row of ones, the penalised half square, zeros. -/
theorem y_tail (Y : Vec Ideal S1x128x512 .f32) (M : Vec Ideal S1x512 .i32) (k : Fin 16) (i : Fin 512) :
    k0_pay13 (k0_pay7 Y M) k0_pay8 (ix2 k i) = if k.val < 1 then 1 else if k.val - 1 < 1 then half Y M i else 0 := by
  unfold half
  pointwise [k0_pay13, k0_pay7, k0_pay3, k0_pay8, k0_pay6, k0_pay4]
  split
  · rfl
  · split
    · rename_i h
      have : (⟨k.val - 1, h⟩ : Fin 1) = 0 := Subsingleton.elim _ _
      simp only [this]
    · rfl

/-- The penalised half square over reals. -/
theorem half_eq (X : Vec Ideal S1x128x512 .f32) (M : Vec Ideal S1x512 .i32) (x : Fin 128 → Fin 512 → ℝ)
    (hX : ∀ c i, X (ix3 0 c i) = ((x c i : ℝ) : EReal)) (i : Fin 512) :
    half X M i = ((bias (-huge) (counts M i) - 1 / 2 * ∑ c, x c i * x c i : ℝ) : EReal) := by
  unfold half bias
  rw [select_counts, bits_neg_1e30, bits_half]
  simp only [hX, ← EReal.coe_mul, coe_sum]
  split <;> simp only [← EReal.coe_zero, ← EReal.coe_mul, ← EReal.coe_sub]

/-- The product of the two staged arrays at `(i, j)`. -/
theorem score_eq (X Y : Vec Ideal S1x128x512 .f32) (M : Vec Ideal S1x512 .i32) (x y : Fin 128 → Fin 512 → ℝ)
    (hX : ∀ c i, X (ix3 0 c i) = ((x c i : ℝ) : EReal)) (hY : ∀ c i, Y (ix3 0 c i) = ((y c i : ℝ) : EReal))
    (i j : Fin 512) :
    ∑ k : Fin 144, stageX X M (ix2 k i) * stageY Y M (ix2 k j)
      = ((bias (-huge) (counts M i) + bias (-huge) (counts M j)
          - (∑ c, (x c i - y c j) * (x c i - y c j)) / 2 : ℝ) : EReal) := by
  refine (Fin.sum_univ_add (a := 128) (b := 16) _).trans ?_
  unfold stageX stageY
  simp only [stage_lo, stage_hi, x_coord, y_coord, x_tail, y_tail, hX, hY, half_eq _ _ _ hX, half_eq _ _ _ hY]
  have htail : ∀ p q : EReal, (∑ k : Fin 16, (if k.val < 1 then p else if k.val - 1 < 1 then 1 else 0)
      * (if k.val < 1 then 1 else if k.val - 1 < 1 then q else 0)) = p + q := fun p q => by
    simp [Fin.sum_univ_succ]
  rw [htail]
  simp only [← EReal.coe_mul, coe_sum]
  rw [← EReal.coe_add, ← EReal.coe_add]
  have hsq : ∑ c, (x c i - y c j) * (x c i - y c j)
      = (∑ c, x c i * x c i) - 2 * (∑ c, x c i * y c j) + ∑ c, y c j * y c j := by
    rw [Finset.mul_sum, ← Finset.sum_sub_distrib, ← Finset.sum_add_distrib]
    exact Finset.sum_congr rfl fun c _ => by ring
  rw [hsq]
  congr 1; ring

/-- The first part of a batch's figure: per column, the greatest score, where the column counts. -/
theorem cols_eq (A B : Vec Ideal S144x512 .bf16) (M : Vec Ideal S1x512 .i32) (s : Fin 512 → Fin 512 → EReal)
    (hs : ∀ i j, ∑ k : Fin 144, A (ix2 k i) * B (ix2 k j) = s i j) :
    k0_pay15 (k0_pay5 M) A B
      = ∑ j, Finset.fold max ⊥ (fun i => s i j) Finset.univ * ((if counts M j then 1 else 0 : ℝ) : EReal) := by
  pointwise [k0_pay15, k0_pay14, k0_pay5, k0_pay4]
  simp only [hs, select_counts, bits_neg_inf, Fin.sum_univ_one]
  refine Finset.sum_congr rfl fun j _ => ?_
  split <;> simp

/-- The second part: per row, the greatest score cut off below and shifted. -/
theorem rows_eq (A B : Vec Ideal S144x512 .bf16) (s : Fin 512 → Fin 512 → EReal)
    (hs : ∀ i j, ∑ k : Fin 144, A (ix2 k i) * B (ix2 k j) = s i j) :
    k0_pay16 A B
      = ∑ i, (max (Finset.fold max ⊥ (fun j => s i j) Finset.univ) ((-100000 : ℝ) : EReal) + ((100000 : ℝ) : EReal)) := by
  pointwise [k0_pay16, k0_pay14]
  simp only [hs, bits_neg_inf, bits_1e5, bits_neg_1e5, Fin.sum_univ_one]

/-- The third part: how many points count. -/
theorem count_eq (M : Vec Ideal S1x512 .i32) :
    extractAt ![0, 0, 0] (shapeCast S1x1x1 (k0_pay17 (k0_pay5 M)) shapeCasts_S1_S1x1x1) inpos_S1x1x1_p0_0_0
      = ∑ i, ((if counts M i then 1 else 0 : ℝ) : EReal) := by
  pointwise [k0_pay17, k0_pay5, k0_pay4]
  simp only [select_counts, Fin.sum_univ_one]
  refine Finset.sum_congr rfl fun j _ => ?_
  split <;> simp

/-- How the three parts are put together. -/
theorem combine (a b n : Ideal .f32) :
    Scalar.addf a (Scalar.subf b (Scalar.mulf (Scalar.ofBits .f32 0x47C35000#32) n))
      = (a + (b - ((100000 : ℝ) : EReal) * n) : EReal) := by
  rw [← bits_1e5]; rfl

/-- The batch's figure as sums over its points. -/
theorem batch_eq (X Y : Vec Ideal S1x128x512 .f32) (M : Vec Ideal S1x512 .i32) (x y : Fin 128 → Fin 512 → ℝ)
    (hX : ∀ c i, X (ix3 0 c i) = ((x c i : ℝ) : EReal)) (hY : ∀ c i, Y (ix3 0 c i) = ((y c i : ℝ) : EReal)) :
    batch X Y M
      = (∑ j, Finset.fold max ⊥ (fun i => ((bias (-huge) (counts M i) + bias (-huge) (counts M j)
            - (∑ c, (x c i - y c j) * (x c i - y c j)) / 2 : ℝ) : EReal)) Finset.univ
          * ((if counts M j then 1 else 0 : ℝ) : EReal))
        + ((∑ i, (max (Finset.fold max ⊥ (fun j => ((bias (-huge) (counts M i) + bias (-huge) (counts M j)
              - (∑ c, (x c i - y c j) * (x c i - y c j)) / 2 : ℝ) : EReal)) Finset.univ)
              ((-100000 : ℝ) : EReal) + ((100000 : ℝ) : EReal)))
          - ((100000 : ℝ) : EReal) * ∑ i, ((if counts M i then 1 else 0 : ℝ) : EReal)) := by
  have hs := score_eq X Y M x y hX hY
  unfold batch
  rw [combine, cols_eq _ _ M _ hs, rows_eq _ _ _ hs, count_eq]

end Cert.KernelIdeal.Val
-- ==== Proof.Body.lean ====
/- What a grid point leaves in the one-cell output block: the block's content before (zero at the first
   point), plus minus an eighth of the sum of the point's eight batches. -/
module

public import proofs.«01_k».proof.Proof.Score
public import proofs.«01_k».proof.Proof.Gen.KernelIdeal.Frame

@[expose] public section

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

/-- The eight batches of a grid point, added up in order from zero. -/
def eight (g : Fin 8 → F .f32) : F .f32 :=
  Scalar.addf (Scalar.addf (Scalar.addf (Scalar.addf (Scalar.addf (Scalar.addf (Scalar.addf (Scalar.addf
    (Scalar.ofBits .f32 0x00000000#32) (g 0)) (g 1)) (g 2)) (g 3)) (g 4)) (g 5)) (g 6)) (g 7)

/-- What a grid point leaves over the block's content `o`. -/
def leaves (g : Fin 8 → F .f32) (o : Vec F S1x1 .f32) : FVec F S1x1 .f32 :=
  k0_pay1 (Scalar.mulf (eight g) (Scalar.ofBits .f32 0xBE000000#32)) o

/-- The block of `x` (or `y`) a grid point's batch `k` loads. -/
def slab (B : Vec F S8x128x512 .f32) (k : Fin 8) : Vec F S1x128x512 .f32 :=
  View.ld B (Rect.unit (s := S8x128x512) ![k.val, 0, 0] S1x128x512.size (by
    have hk : k.val < 8 := k.isLt
    intro a; fin_cases a <;> simp <;> omega))

/-- The row of the mask that batch `k` at grid coordinates `i` loads. -/
def row (B : Vec F S16x512 .i32) (i : grid0.Coords) (k : Fin 8) : Vec F S1x512 .i32 :=
  View.ld B (Rect.unit (s := S16x512) (k0_off1 i (BitVec.ofNat 32 k.val)) S1x512.size (k0_off1_inb i k))

variable (m : (ℓ : Loc nD τ sig) → Buf (Elt Ideal) ℓ)

/-- What the second point leaves: its eight batches over what the first left. -/
theorem stepB (c : Dev nD) (t : Fin cfg0.N) (h : ¬ t.val % 2 = 0) :
    outsAt0 m c t.val t.isLt
      = leaves (F := Ideal) (fun k => batch (slab (iblk m c 0 t) k) (slab (iblk m c 1 t) k)
          (row (iblk m c 2 t) (grid0.coords t) k)) (outsAt0 m c (t.val - 1) (lt_of_le_of_lt (Nat.sub_le _ _) t.isLt)) := by
  rw [outsAt0_B m c t h]
  frame_out
  iterate 8 rw [readCov_stage0 (F := Ideal)]
  iterate 8 rw [readCov_stage1 (F := Ideal)]
  rfl

/-- At the first point the block is filled with zero beforehand. -/
theorem stepA (c : Dev nD) (t : Fin cfg0.N) (h : t.val % 2 = 0) :
    outsAt0 m c t.val t.isLt
      = leaves (F := Ideal) (fun k => batch (slab (iblk m c 0 t) k) (slab (iblk m c 1 t) k)
          (row (iblk m c 2 t) (grid0.coords t) k)) (k0_pay119 (F := Ideal)) := by
  rw [outsAt0_A m c t h]
  frame_out
  iterate 8 rw [readCov_stage0 (F := Ideal)]
  iterate 8 rw [readCov_stage1 (F := Ideal)]
  rfl

end Cert.KernelIdeal.Val
-- ==== Proof.Loads.lean ====
/- What a grid point loads, in terms of the launch's arguments: batch `k` of point `t` is batch
   `8 t + k` of the arguments. -/
module

public import proofs.«01_k».proof.Proof.Body
public import Idealize.ShloMosaic.Lib.Claim

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

/-- The batch of the arguments that is batch `k` of point `t`. -/
def pos (t : Fin cfg0.N) (k : Fin 8) : Fin 16 :=
  ⟨8 * t.val + k.val, by have ht : t.val < 2 := lt_of_lt_of_eq t.isLt N_0; have hk := k.isLt; omega⟩

/-- A batch of a block, at a coordinate and a point. -/
theorem slab_apply (B : Vec Ideal S8x128x512 .f32) (k : Fin 8) (ch : Fin 128) (i : Fin 512) :
    slab B k (ix3 0 ch i) = B (ix3 k ch i) := by
  unfold slab
  refine congrArg B ?_
  funext a; apply Fin.ext
  fin_cases a <;> simp [LoadRect.idx, Rect.toLoadRect, Rect.unit, ix3]

/-- The row of the mask that a batch loads. -/
theorem row_apply (B : Vec Ideal S16x512 .i32) (g : grid0.Coords) (k : Fin 8) (b : Fin 16) (hb : b.val = 8 * (g 0).val + k.val) (i : Fin 512) :
    row B g k (ix2 0 i) = B (ix2 b i) := by
  unfold row
  refine congrArg B ?_
  funext a; apply Fin.ext
  have h0 := congrFun (k0_off1_eq g k) 0
  have h1 := congrFun (k0_off1_eq g k) 1
  fin_cases a <;> simp [LoadRect.idx, Rect.toLoadRect, Rect.unit, ix2, h0, h1, hb]

/-- The index maps of the windows, at a point. -/
theorem idx : ∀ t : Fin cfg0.N, win0_0.index t = ![t.val, 0, 0]
    ∧ win0_1.index t = ![t.val, 0, 0] ∧ win0_2.index t = ![0, 0]
    ∧ (grid0.coords t 0).val = t.val := by decide +kernel

variable (m : (ℓ : Loc nD τ sig) → Buf (Elt Ideal) ℓ)

/-- The block of `x` that a batch loads is that batch of the argument. -/
theorem x_load (c : Dev nD) (t : Fin cfg0.N) (k : Fin 8) (ch : Fin 128) (i : Fin 512) :
    slab (iblk m c 0 t) k (ix3 0 ch i) = m ((c.tc : Thread nD τ).loc main_arg0) (ix3 (pos t k) ch i) := by
  rw [slab_apply]
  blk_ext [iblk, V, idx t, pos]

/-- The block of `y` that a batch loads is that batch of the argument. -/
theorem y_load (c : Dev nD) (t : Fin cfg0.N) (k : Fin 8) (ch : Fin 128) (i : Fin 512) :
    slab (iblk m c 1 t) k (ix3 0 ch i) = m ((c.tc : Thread nD τ).loc main_arg1) (ix3 (pos t k) ch i) := by
  rw [slab_apply]
  blk_ext [iblk, V, idx t, pos]

/-- The kernel is handed the mask widened to words. -/
theorem row_load (c : Dev nD) (t : Fin cfg0.N) (k : Fin 8) (i : Fin 512) :
    row (iblk m c 2 t) (grid0.coords t) k (ix2 0 i)
      = BitVec.setWidth 32 (m ((c.tc : Thread nD τ).loc main_arg2) (ix2 (pos t k) i) : BitVec 1) := by
  have hb : (pos t k).val = 8 * (grid0.coords t 0).val + k.val := by
    rw [(idx t).2.2.2]; rfl
  rw [row_apply _ _ _ _ hb]
  blk_ext! [iblk, idx t]

/-- The result array after the run is what the second point leaves. -/
theorem final (c : Dev nD) : (dats m 0 c).arrAt 3 (cfgs 0).N = outsAt0 m c t0_1.val t0_1.isLt := by
  refine (dats m 0 c).arrAt_eq_of_after_last 3 t0_1 (by decide +kernel) _ fun j => ?_
  blk_simp
  rw [after0_3]

end Cert.KernelIdeal.Val
-- ==== Proof.Reference.lean ====
/- The reference's result, read as a number: over every batch, the sum of each counting point's least
   squared distance to the counting points of the other cloud, both ways round, divided by 16. -/
module

public import proofs.«01_k».proof.Proof.Gen.ReferenceIdeal.Run
public import proofs.«01_k».proof.Proof.Constants
public import proofs.«01_k».proof.Proof.Nearest
public import Idealize.ShloMosaic.Lib.Pointwise

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Constants

/-- The coordinate differences of every pair of points. -/
def diff (x y : FVec Ideal S16x128x512 .f32) : FVec Ideal S16x128x512x512 .f32 :=
  subf (broadcastInDim S16x128x512x512 ![0, 1, 2, 3] bcast_S16x128x512x1_S16x128x512x512_0_1_2_3
      (broadcastInDim S16x128x512x1 ![0, 1, 2] bcast_S16x128x512_S16x128x512x1_0_1_2 x))
    (broadcastInDim S16x128x512x512 ![0, 1, 2, 3] bcast_S16x128x1x512_S16x128x512x512_0_1_2_3
      (broadcastInDim S16x128x1x512 ![0, 1, 3] bcast_S16x128x512_S16x128x1x512_0_1_3 y))

/-- The squared distances, a large figure in place of every pair of which one point does not count. -/
def pairs (x y : FVec Ideal S16x128x512 .f32) (mk : IVec S16x512 1) : FVec Ideal S16x512x512 .f32 :=
  select (andi
      (broadcastInDim S16x512x512 ![0, 1, 2] bcast_S16x512x1_S16x512x512_0_1_2
        (broadcastInDim S16x512x1 ![0, 1] bcast_S16x512_S16x512x1_0_1 mk))
      (broadcastInDim S16x512x512 ![0, 1, 2] bcast_S16x1x512_S16x512x512_0_1_2
        (broadcastInDim S16x1x512 ![0, 2] bcast_S16x512_S16x1x512_0_2 mk)))
    (Host.reduceAdd (mulf (diff x y) (diff x y)) (constant S_ .f32 0x00000000#32)
      reducesTo_S16x128x512x512_S16x512x512_d1 h_S_)
    (broadcastInDim S16x512x512 ![] bcast_S_S16x512x512 (constant S_ .f32 0x7149F2CA#32))

/-- The whole result. -/
def result (x y : FVec Ideal S16x128x512 .f32) (mk : IVec S16x512 1) : FVec Ideal S_ .f32 :=
  Host.divf (addf
      (Host.reduceAdd (select mk
          (Host.reduce FloatOps.minimumf (pairs x y mk) (constant S_ .f32 0x7F800000#32) reducesTo_S16x512x512_S16x512_d1 h_S_)
          (broadcastInDim S16x512 ![] bcast_S_S16x512 (constant S_ .f32 0x00000000#32)))
        (constant S_ .f32 0x00000000#32) reducesTo_S16x512_S_d0_1 h_S_)
      (Host.reduceAdd (select mk
          (Host.reduce FloatOps.minimumf (pairs x y mk) (constant S_ .f32 0x7F800000#32) reducesTo_S16x512x512_S16x512_d2 h_S_)
          (broadcastInDim S16x512 ![] bcast_S_S16x512 (constant S_ .f32 0x00000000#32)))
        (constant S_ .f32 0x00000000#32) reducesTo_S16x512_S_d0_1 h_S_))
    (constant S_ .f32 0x41800000#32)

/-- A choice on a bit. -/
theorem select_bit {α : Type} (b : BitVec 1) (p q : α) : Scalar.select b p q = if b = 1#1 then p else q := by
  unfold Scalar.select; rfl

/-- The masked squared distances over reals. -/
theorem pairs_eq (x y : FVec Ideal S16x128x512 .f32) (mk : IVec S16x512 1) (u v : Fin 16 → Fin 128 → Fin 512 → ℝ)
    (hx : ∀ b c i, x (ix3 b c i) = ((u b c i : ℝ) : EReal)) (hy : ∀ b c i, y (ix3 b c i) = ((v b c i : ℝ) : EReal))
    (b : Fin 16) (i j : Fin 512) :
    pairs x y mk (ix3 b i j) = ((if mk (ix2 b i) = 1#1 ∧ mk (ix2 b j) = 1#1
        then ∑ c, (u b c i - v b c j) * (u b c i - v b c j) else huge : ℝ) : EReal) := by
  have hs : pairs x y mk (ix3 b i j) = Scalar.select (IntOp.andi (mk (ix2 b i)) (mk (ix2 b j)))
      (∑ c, (x (ix3 b c i) - y (ix3 b c j)) * (x (ix3 b c i) - y (ix3 b c j))) (Ideal.ofBits .f32 0x7149F2CA#32) := by
    pointwise [pairs, diff]
  rw [hs, select_bit, bits_1e30, if_congr IntOp.andi_eq_one rfl rfl]
  simp only [hx, hy, ← EReal.coe_sub, ← EReal.coe_mul, Nearest.coe_sum]
  split <;> rfl

/-- The result as sums of least distances, over 16. -/
theorem result_eq (x y : FVec Ideal S16x128x512 .f32) (mk : IVec S16x512 1) (j : S_.Idx) :
    result x y mk j = Ideal.div
      ((∑ b : Fin 16, ∑ j : Fin 512, if mk (ix2 b j) = 1#1 then
          Finset.fold min ⊤ (fun i : Fin 512 => pairs x y mk (ix3 b i j)) Finset.univ else 0)
        + ∑ b : Fin 16, ∑ i : Fin 512, if mk (ix2 b i) = 1#1 then
          Finset.fold min ⊤ (fun j : Fin 512 => pairs x y mk (ix3 b i j)) Finset.univ else 0)
      ((16 : ℝ) : EReal) := by
  pointwise [result]
  simp only [select_bit, bits_inf, bits_16]

end Cert.ReferenceIdeal.Val
-- ==== Proof.Result.lean ====
/- The kernel's result and the reference's are the same number. -/
module

public import proofs.«01_k».proof.Proof.Loads
public import proofs.«01_k».proof.Proof.Reference

@[expose] public section

set_option maxRecDepth 16384

noncomputable section

namespace Cert.KernelIdeal.Val

open Idealize.ShloMosaic Idealize.ShloMosaic.TcCoe Idealize.SL.Sem
open Cert.KernelIdeal Cert.KernelIdeal.Gen Cert.Nearest Cert.Constants

/-- The least squared distance to a counting point of `x`, summed over the counting points of `y`. -/
def cols (x y : Fin 128 → Fin 512 → ℝ) (v : Fin 512 → Prop) [DecidablePred v] : EReal :=
  ∑ j, if v j then Finset.fold min ⊤ (fun i => ((if v i ∧ v j then
    ∑ c, (x c i - y c j) * (x c i - y c j) else huge : ℝ) : EReal)) Finset.univ else 0

/-- The least squared distance to a counting point of `y`, summed over the counting points of `x`. -/
def rows (x y : Fin 128 → Fin 512 → ℝ) (v : Fin 512 → Prop) [DecidablePred v] : EReal :=
  ∑ i, if v i then Finset.fold min ⊤ (fun j => ((if v i ∧ v j then
    ∑ c, (x c i - y c j) * (x c i - y c j) else huge : ℝ) : EReal)) Finset.univ else 0

/-- One batch: the two sums are real, and the kernel's figure is minus half of what they come to. -/
theorem batch_nearest (x y : Fin 128 → Fin 512 → ℝ) (v : Fin 512 → Prop) [DecidablePred v]
    (hx : ∀ c i, |x c i| ≤ 19) (hy : ∀ c i, |y c i| ≤ 19) :
    ∃ e₁ e₂ : ℝ, cols x y v = (e₁ : EReal) ∧ rows x y v = (e₂ : EReal)
      ∧ ∀ (X Y : Vec Ideal S1x128x512 .f32) (M : Vec Ideal S1x512 .i32),
        (∀ c i, X (ix3 0 c i) = ((x c i : ℝ) : EReal)) → (∀ c i, Y (ix3 0 c i) = ((y c i : ℝ) : EReal)) →
        (∀ i, counts M i ↔ v i) → batch X Y M = ((-(e₁ + e₂) / 2 : ℝ) : EReal) := by
  have hsq : ∀ i j c, (x c i - y c j) * (x c i - y c j) ≤ 1444 := fun i j c => by
    have h1 := abs_le.mp (hx c i)
    have h2 := abs_le.mp (hy c j)
    nlinarith
  obtain ⟨e₁, e₂, h, h1, h2⟩ := Nearest.batch (L := -huge) (U := huge) (Q := 100000)
    (by linarith [huge_ge]) (by linarith [huge_ge]) (by norm_num) v
    (fun i j => ∑ c, (x c i - y c j) * (x c i - y c j))
    (fun i j => Finset.sum_nonneg fun c _ => mul_self_nonneg _)
    (fun i j => (Finset.sum_le_card_nsmul _ _ 1444 fun c _ => hsq i j c).trans (by simp; norm_num))
  refine ⟨e₁, e₂, h1, h2, fun X Y M hX hY hM => ?_⟩
  rw [← h]
  have hv : counts M = v := funext fun i => propext (hM i)
  subst hv
  refine (batch_eq X Y M x y hX hY).trans ?_
  congr!

/-- What a point leaves, over reals. -/
theorem leaves_real (g : Fin 8 → Ideal .f32) (r : Fin 8 → ℝ) (hg : ∀ k, g k = ((r k : ℝ) : EReal))
    (o : Vec Ideal S1x1 .f32) (q : ℝ) (ho : o (ix2 0 0) = ((q : ℝ) : EReal)) :
    leaves (F := Ideal) g o (ix2 0 0) = ((q + (∑ k, r k) * (-1 / 8) : ℝ) : EReal) := by
  have h8 : eight (F := Ideal) g = ((∑ k, r k : ℝ) : EReal) := by
    unfold eight
    simp only [hg]
    have h0 : (Scalar.ofBits .f32 0x00000000#32 : Ideal .f32) = ((0 : ℝ) : EReal) := by
      show Ideal.ofBits .f32 0x00000000#32 = _
      pointwise
      exact EReal.coe_zero.symm
    rw [h0]
    have hadd : ∀ a b : ℝ, Scalar.addf (F := Ideal) (φ := .f32) ((a : ℝ) : EReal) ((b : ℝ) : EReal) = ((a + b : ℝ) : EReal) :=
      fun a b => (EReal.coe_add a b).symm
    simp only [hadd]
    congr 1
    simp [Fin.sum_univ_succ]; ring
  have hl : leaves (F := Ideal) g o (ix2 0 0) = o (ix2 0 0) + eight (F := Ideal) g * Ideal.ofBits .f32 0xBE000000#32 := by
    unfold leaves
    pointwise [k0_pay1]
  rw [hl, ho, h8, bits_neg_eighth, ← EReal.coe_mul, ← EReal.coe_add]

/-- The sixteen batches, point by point. -/
theorem sum_batches (f : Fin 16 → ℝ) : ∑ b, f b = (∑ k, f (pos t0_0 k)) + ∑ k, f (pos t0_1 k) := by
  have h0 : t0_0.val = 0 := by decide +kernel
  have h1 : t0_1.val = 1 := by decide +kernel
  refine (Fin.sum_univ_add (a := 8) (b := 8) f).trans (congrArg₂ (· + ·) ?_ ?_) <;>
    refine Finset.sum_congr rfl fun k _ => congrArg f (Fin.ext ?_)
  · simp [pos, h0]
  · simp [pos, h1, Nat.add_comm]

variable (m : (ℓ : Loc nD τ sig) → Buf (Elt Ideal) ℓ)

/-- The result array's one cell holds the reference's result. -/
theorem value (c : Dev nD)
    (hx : ∀ i, ∃ r : ℝ, m ((c.tc : Thread nD τ).loc main_arg0) i = (r : EReal) ∧ |r| ≤ 19)
    (hy : ∀ i, ∃ r : ℝ, m ((c.tc : Thread nD τ).loc main_arg1) i = (r : EReal) ∧ |r| ≤ 19) (i : S_.Idx) :
    (dats m 0 c).arrAt 3 (cfgs 0).N (ix2 0 0)
      = Cert.ReferenceIdeal.Val.result (m ((c.tc : Thread nD τ).loc main_arg0))
          (m ((c.tc : Thread nD τ).loc main_arg1)) (m ((c.tc : Thread nD τ).loc main_arg2)) i := by
  choose x hx hx19 using hx
  choose y hy hy19 using hy
  choose e₁ e₂ hcols hrows hbatch using fun b : Fin 16 => batch_nearest (fun ch i => x (ix3 b ch i))
    (fun ch i => y (ix3 b ch i)) (fun i => m ((c.tc : Thread nD τ).loc main_arg2) (ix2 b i) = 1#1)
    (fun _ _ => hx19 _) (fun _ _ => hy19 _)
  -- the kernel
  have hk : ∀ (t : Fin cfg0.N) (k : Fin 8), batch (slab (iblk m c 0 t) k) (slab (iblk m c 1 t) k)
      (row (iblk m c 2 t) (grid0.coords t) k) = ((-(e₁ (pos t k) + e₂ (pos t k)) / 2 : ℝ) : EReal) := fun t k =>
    hbatch (pos t k) _ _ _ (fun ch i => (x_load m c t k ch i).trans (hx _)) (fun ch i => (y_load m c t k ch i).trans (hy _))
      fun i => by
        unfold counts
        rw [row_load]
        exact (by decide : ∀ b : BitVec 1, BitVec.setWidth 32 b ≠ 0#32 ↔ b = 1#1) _
  have hA := leaves_real _ _ (hk t0_0) (k0_pay119 (F := Ideal)) 0 (by pointwise [k0_pay119]; exact EReal.coe_zero.symm)
  rw [← stepA m c t0_0 (by decide +kernel)] at hA
  have hB := leaves_real _ _ (hk t0_1) _ _ hA
  rw [final, stepB m c t0_1 (by decide +kernel)]
  refine hB.trans ?_
  -- the reference
  have hp := Cert.ReferenceIdeal.Val.pairs_eq (m ((c.tc : Thread nD τ).loc main_arg0)) (m ((c.tc : Thread nD τ).loc main_arg1))
    (m ((c.tc : Thread nD τ).loc main_arg2)) (fun b ch i => x (ix3 b ch i)) (fun b ch i => y (ix3 b ch i))
    (fun _ _ _ => hx _) (fun _ _ _ => hy _)
  rw [Cert.ReferenceIdeal.Val.result_eq, Ideal.div_coe (by norm_num)]
  simp only [hp]
  refine Eq.symm ((congrArg (· * ((1 / 16 : ℝ) : EReal)) (congrArg₂ (· + ·)
    (Finset.sum_congr rfl fun b _ => hcols b) (Finset.sum_congr rfl fun b _ => hrows b))).trans ?_)
  simp only [coe_sum]
  rw [← EReal.coe_add, ← EReal.coe_mul, sum_batches e₁, sum_batches e₂]
  congr 1
  simp only [neg_div, Finset.sum_neg_distrib, ← Finset.sum_div, Finset.sum_add_distrib]
  ring

/-- After the launch the one cell is copied to a scalar. -/
theorem tail (c : Dev nD) (i : S_.Idx) :
    Pipeline.afterTail₀ cfgs (dats m) 0 (V0 m) [hostOps1] c main_v2 i = (dats m 0 c).arrAt 3 (cfgs 0).N (ix2 0 0) := by
  have hw : Pipeline.withArrays (cfgs 0).spec c (V0 m c) (fun w => (dats m 0 c).arrAt w (cfgs 0).N)
      (Proc.tc.devRef main_v1) = (dats m 0 c).arrAt 3 (cfgs 0).N :=
    Pipeline.withArrays_arr (cfgs 0).spec (by decide) c (V0 m c) (fun w => (dats m 0 c).arrAt w (cfgs 0).N) 3
  have h : Pipeline.afterTail₀ cfgs (dats m) 0 (V0 m) [hostOps1] c main_v2
      = shapeCast S_ ((dats m 0 c).arrAt 3 (cfgs 0).N) shapeCasts_S1x1_S_ := by
    unfold Pipeline.afterTail₀
    simp only [List.flatten_cons, List.flatten_nil, List.append_nil, hostOps1]
    after_results
    rw [hw]
    rfl
  rw [h]
  pointwise

/-- The kernel's run: its result is the one cell, and its arguments are left alone. -/
theorem run (g : Dev nD → PrngReg) : θ_run defs (onTc (τ := τ) (main (F := Ideal))) ⟨m, fun _ => 0, g⟩ (fun r => ∀ c : Dev nD,
      r.2.mem ((c.tc : Thread nD τ).loc main_v2) = (fun _ => (dats m 0 c).arrAt 3 (cfgs 0).N (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun r h c => ⟨((h.2 c).2 main_v2 (by decide)).trans (funext fun i => tail m c i), h.1 c⟩)
    (θ_run_and (unchanged m g) (run_main m g))

end Cert.KernelIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Range
public import proofs.«01_k».proof.Proof.Result
public import Idealize.ShloMosaic.Adequacy
public import proofs.«01_k».proof.Proof.Gen.ReferenceIdeal.Run
public import Idealize.ShloMosaic.Init

@[expose] public section

noncomputable section

namespace Cert.Proof

open Idealize.ShloMosaic Idealize.SL.Sem

theorem frame_kernel : Cert.quiescent_Kernel (hKernel := Cert.Kernel.Gen.facts) :=
  fun m g _ => Cert.Kernel.Gen.frame m g

theorem frame_kernelIdeal : Cert.quiescent_KernelIdeal (hKernelIdeal := Cert.KernelIdeal.Gen.facts) :=
  fun m g _ => Cert.KernelIdeal.Gen.frame m g

theorem frame_referenceIdeal : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run m g)

/-- The value claim. -/
theorem equal : Cert.algebraic_KernelIdeal_ReferenceIdeal_pre_in_range (hKernelIdeal := Cert.KernelIdeal.Gen.facts)
    (hReferenceIdeal := Cert.ReferenceIdeal.Gen.facts) (hPre_in_range := Cert.Pre_in_range.facts) := by
  pair_intro
  · run_from Cert.KernelIdeal.Val.run m g
  · run_from Cert.ReferenceIdeal.Value.run m' g'
    obtain ⟨hx, hy⟩ := Cert.Pre_in_range.reals _ _ _ (hpre c)
    exact funext fun i => (Cert.KernelIdeal.Val.value m c hx hy i).symm

theorem claim : Cert.Claim :=
  ⟨Cert.Kernel.Gen.facts, Cert.KernelIdeal.Gen.facts, Cert.ReferenceIdeal.Gen.facts, Cert.Pre_in_range.facts,
    frame_kernel, frame_kernelIdeal, fun m g _ => frame_kernelIdeal m g trivial,
    frame_referenceIdeal, fun m g _ => frame_referenceIdeal m g trivial, trivial, equal⟩

end Cert.Proof

end
